-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x2048 : Shape := ⟨3, ![2, 4096, 2048]⟩
abbrev S4096x2048 : Shape := ⟨2, ![4096, 2048]⟩
abbrev S2x256x2048 : Shape := ⟨3, ![2, 256, 2048]⟩
abbrev S256x2048 : Shape := ⟨2, ![256, 2048]⟩
abbrev S1x256x2048 : Shape := ⟨3, ![1, 256, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S4096x2048, .f32⟩
  | .local _ .vmem, ⟨0, _⟩ => ⟨S2x256x2048, .f32⟩
  | .local _ .vmem, ⟨1, _⟩ => ⟨S2x256x2048, .f32⟩
  | .local _ .vmem, ⟨2, _⟩ => ⟨S256x2048, .f32⟩
  | .local _ .vmem, ⟨3, _⟩ => ⟨S256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S_, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .i1⟩
  | .hbm, ⟨7, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Positive.lean ====
/- The function that kernel and reference both compute, and what one element of it is at the ideal values. -/
module

public import proofs.«01_k».proof.Defs
public import Idealize.ShloMosaic.Lib.Pointwise
public import Idealize.ShloMosaic.Lib.KernelVsHost

@[expose] public section

noncomputable section

namespace Cert.Positive

open Idealize.ShloMosaic

/-- The indicator of "the two planes of `X` have a positive sum at row `r`, column `k`": `1` there, else `0`. -/
def positive (X : (⟨3, ![2, 4096, 2048]⟩ : Shape).Idx → EReal) : (⟨2, ![4096, 2048]⟩ : Shape).Idx → EReal :=
  fun i => if 0 < X (ix3 0 (i 0) (i 1)) + X (ix3 1 (i 0) (i 1)) then 1 else 0

/-- The kernel's route from a comparison to a float: compare with the zero word, widen the bit to 32 bits and convert
    it as a signed integer. At the ideal values that is the indicator of `0 < x`. -/
theorem widened_bit (x : EReal) :
    (FloatOps.sitofp (F := Ideal) .f32
        ((FloatOps.cmpf (F := Ideal) (φ := .f32) .ogt x (Scalar.ofBits .f32 0x00000000#32)).setWidth 32) : EReal)
      = if 0 < x then 1 else 0 := by
  show ((((Ideal.cmp .ogt x (Ideal.ofBits .f32 0x00000000#32)).setWidth 32).toInt : ℝ) : EReal) = _
  rw [Ideal.ofBits_zero_f32]
  by_cases h : (0 : EReal) < x <;> simp [Ideal.cmp, h]

/-- The host's route: the bit is converted as an unsigned integer. The same indicator. -/
theorem host_bit (x : EReal) : (((Ideal.cmp .ogt x 0).toNat : ℝ) : EReal) = if 0 < x then 1 else 0 := by
  by_cases h : (0 : EReal) < x <;> simp [Ideal.cmp, h]

end Cert.Positive

end
-- ==== Proof.KernelValue.lean ====
/- What the ideal kernel leaves in its result array. Grid point `t` stages both planes of rows `256 t … 256 t + 255`
   and writes back the same rows of the result; the sixteen blocks tile the array, so the array ends as the indicator
   `positive` of the whole argument. -/
module

public import proofs.«01_k».proof.Proof.Positive
public import proofs.«01_k».proof.Proof.Gen.KernelIdeal.Value

@[expose] public section

noncomputable section

namespace Cert.KernelIdeal.Result

open Cert.KernelIdeal Cert.KernelIdeal.Gen Idealize.ShloMosaic Idealize.ShloMosaic.TcCoe Idealize.SL.Sem
open Idealize.ShloMosaic.Pipeline (Dat)
open Cert.Positive

variable (m : (ℓ : Loc nD τ sig) → Buf (Elt Ideal) ℓ) (ρ : Dev nD → PrngReg)

/-- The value claimed of device `c`'s result array. -/
abbrev result (c : Dev nD) : Buf (Elt Ideal) ((c : Thread nD τ).loc main_v0) :=
  positive (m ((c : Thread nD τ).loc main_arg0))

/-- The block indices and block extents of both windows at a grid point: the input block takes both planes and all
    columns, and input and output agree on the row block, which is the point's own number. -/
theorem geometry : ∀ t : Fin grid0.N,
    win0_0.index t 0 = 0 ∧ win0_0.index t 1 = t.val ∧ win0_0.index t 2 = 0
      ∧ win0_1.index t 0 = t.val ∧ win0_1.index t 1 = 0
      ∧ win0_1.xsize (grid0.coords t) 0 = 256 ∧ win0_1.xsize (grid0.coords t) 1 = 2048 := by
  decide +kernel

/-- An element of the input block at point `t`, as an element of the argument. -/
theorem block_apply (c : Dev nD) (t : Fin cfg0.N) (p : Fin 2) (R : Fin 4096) (k : Fin 2048)
    (y : S2x256x2048.Idx) (hR : R.val = t.val * 256 + (y 1).val) (hy0 : (y 0).val = p.val)
    (hy2 : (y 2).val = k.val) :
    (iblk m c 0 t : S2x256x2048.Idx → EReal) y = m ((c : Thread nD τ).loc main_arg0) (ix3 p R k) := by
  obtain ⟨g0, g1, g2, -⟩ := geometry t
  refine congrArg (m ((c : Thread nD τ).loc main_arg0)) (funext fun a => Fin.ext ?_)
  match a with
  | ⟨0, _⟩ => show win0_0.index t 0 * 2 + 1 * (y 0).val = p.val; rw [g0]; omega
  | ⟨1, _⟩ => show win0_0.index t 1 * 256 + 1 * (y 1).val = R.val; rw [g1]; omega
  | ⟨2, _⟩ => show win0_0.index t 2 * 2048 + 1 * (y 2).val = k.val; rw [g2]; omega

/-- What the body computes at point `t`, at row `r` and column `k` of its block: the indicator at row `256 t + r`. -/
theorem body_apply (c : Dev nD) (t : Fin cfg0.N) (y : S256x2048.Idx) (R : Fin 4096) (k : Fin 2048)
    (hR : R.val = t.val * 256 + (y 0).val) (hk : k.val = (y 1).val) :
    (out0_1 (iblk m c 0 t) : S256x2048.Idx → EReal) y
      = positive (m ((c : Thread nD τ).loc main_arg0)) (ix2 R k) := by
  unfold out0_1
  rw [Value.canon1_eq]
  refine (widened_bit _).trans ?_
  have plane (p : Fin 2) (z : S2x256x2048.Idx) (hz0 : (z 0).val = p.val) (hz1 : (z 1).val = (y 0).val)
      (hz2 : (z 2).val = (y 1).val) :=
    block_apply m c t p R k z (by rw [hR, hz1]) hz0 (by rw [hz2, hk])
  have e0 : View.ld (iblk m c 0 t) r0_0 (Value.ix1_0 y) = m ((c : Thread nD τ).loc main_arg0) (ix3 0 R k) :=
    plane 0 (r0_0.idx (Value.ix1_0 y)) rfl (by show 0 + 1 * (y 0).val = _; omega) (by show 0 + 1 * (y 1).val = _; omega)
  have e1 : View.ld (iblk m c 0 t) r0_1 (Value.ix1_1 y) = m ((c : Thread nD τ).loc main_arg0) (ix3 1 R k) :=
    plane 1 (r0_1.idx (Value.ix1_1 y)) rfl (by show 0 + 1 * (y 0).val = _; omega) (by show 0 + 1 * (y 1).val = _; omega)
  rw [e0, e1]
  rfl

/-- What point `t` writes back is its block of `result`. -/
theorem flushed_eq (c : Dev nD) (t : Fin cfg0.N) :
    (dats m 0 c).flushed 1 t = (win0_1.blk t).view.read (Elt Ideal) (result m c) := by
  rw [Value.flushed1]
  funext x
  obtain ⟨-, -, -, g3, g4, -⟩ := geometry t
  have hx0 : (x 0).val < 256 := (x 0).isLt
  have hx1 : (x 1).val < 2048 := (x 1).isLt
  have ht : t.val < 16 := N_0 ▸ t.isLt
  have hidx : ((win0_1.blk t).view.emb x : S4096x2048.Idx)
      = ix2 (⟨t.val * 256 + (x 0).val, by omega⟩ : Fin 4096) (⟨(x 1).val, hx1⟩ : Fin 2048) := by
    refine funext fun a => Fin.ext ?_
    match a with
    | ⟨0, _⟩ => show win0_1.index t 0 * 256 + 1 * (x 0).val = t.val * 256 + (x 0).val; rw [g3]; omega
    | ⟨1, _⟩ => show win0_1.index t 1 * 2048 + 1 * (x 1).val = (x 1).val; rw [g4]; omega
  refine Eq.trans ?_ (congrArg (positive (m ((c : Thread nD τ).loc main_arg0))) hidx).symm
  exact body_apply m c t (fun a => ⟨(x a).val, (x a).isLt⟩) _ _ rfl rfl

/-- Point `t`'s block of the result is the rows `256 t … 256 t + 255`. -/
theorem mem_blk (t : Fin cfg0.N) (i : S4096x2048.Idx) (h : (i 0).val / 256 = t.val) :
    i ∈ ((cfg0.win 1).blk t).view.set := by
  show i ∈ ((View.whole main_v0).slice (win0_1.rect t)).set
  rw [View.set_slice_whole, Rect.mem_set_unit]
  obtain ⟨-, -, -, g3, g4, g5, g6⟩ := geometry t
  have h1 : (i 1).val < 2048 := (i 1).isLt
  intro a
  match a with
  | ⟨0, _⟩ =>
    show win0_1.index t 0 * 256 ≤ (i 0).val ∧ (i 0).val < win0_1.index t 0 * 256 + win0_1.xsize (grid0.coords t) 0
    rw [g3, g5]; omega
  | ⟨1, _⟩ =>
    show win0_1.index t 1 * 2048 ≤ (i 1).val ∧ (i 1).val < win0_1.index t 1 * 2048 + win0_1.xsize (grid0.coords t) 1
    rw [g4, g6]; omega

/-- The sixteen blocks cover the result array, so it ends as `result`. -/
theorem final (c : Dev nD) : (dats m 0 c).arrAt 1 cfg0.N = result m c :=
  (dats m 0 c).arrAt_eq_of_cover 1 (result m c) (fun t _ => flushed_eq m c t) fun i => by
    have h0 : ((i : S4096x2048.Idx) 0).val < 4096 := ((i : S4096x2048.Idx) 0).isLt
    have hN : cfg0.N = 16 := N_0
    exact ⟨⟨((i : S4096x2048.Idx) 0).val / 256, by omega⟩, flush0_1 _, mem_blk _ i rfl⟩

/-- The ideal kernel's run: its result array is `result`, its arguments are as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Result

end
-- ==== Proof.ReferenceValue.lean ====
/- What the ideal reference leaves in its result array: the sum over the leading axis, compared with zero and converted,
   is the indicator `positive` of the argument. -/
module

public import proofs.«01_k».proof.Proof.Positive
public import proofs.«01_k».proof.Proof.Gen.ReferenceIdeal.Run

@[expose] public section

noncomputable section

namespace Cert.ReferenceIdeal.Result

open Cert.ReferenceIdeal Cert.ReferenceIdeal.Gen Idealize.ShloMosaic Idealize.ShloMosaic.TcCoe Idealize.SL.Sem
open Cert.Positive

/-- The reference's composed operations are `positive` of their argument. The sum starts from the zero word, which
    adds nothing to any extended real. -/
theorem value_eq (X : FVec Ideal S2x4096x2048 .f32) :
    (uitofp .f32 (cmpf .ogt (Host.reduceAdd X (constant S_ .f32 0x00000000#32) reducesTo_S2x4096x2048_S4096x2048_d0 h_S_)
      (broadcastInDim S4096x2048 ![] bcast_S_S4096x2048 (constant S_ .f32 0x00000000#32)))
      : FVec Ideal S4096x2048 .f32) = positive X := by
  funext i
  have hsum : Ideal.hostReduceAdd reducesTo_S2x4096x2048_S4096x2048_d0 X (Ideal.ofBits .f32 0x00000000#32) i
      = X (ix3 0 (i 0) (i 1)) + X (ix3 1 (i 0) (i 1)) := by
    rw [Ideal.hostReduceAdd_r3_a0, Ideal.ofBits_zero_f32, zero_add, Fin.sum_univ_two]
    rfl
  show (((Ideal.cmp .ogt (Ideal.hostReduceAdd reducesTo_S2x4096x2048_S4096x2048_d0 X (Ideal.ofBits .f32 0x00000000#32) i)
    (Ideal.ofBits .f32 0x00000000#32)).toNat : ℝ) : EReal) = _
  rw [hsum, Ideal.ofBits_zero_f32]
  exact host_bit _

/-- The ideal reference's run: its result array is `positive` of its first argument, its arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = positive (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (value_eq _), (h c).2⟩) (Value.run m ρ)

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged; it declares no semaphore, so all counters are zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Result.run m ρ)

/-- From equal arguments the ideal kernel and the ideal reference end with equal results: the indicator of a positive
    sum of the dividend's two planes, with no assumption on the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Result.run m' ρ')
  exact congrArg Cert.Positive.positive (hagree c).1

/-- Everything the certificate claims. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    frame_reference, trivial, algebraic⟩

end Cert.Proof

end
